-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20x384 : Shape := ⟨2, ![20, 384]⟩
abbrev S64x256x384 : Shape := ⟨3, ![64, 256, 384]⟩
abbrev S1048576x64 : Shape := ⟨2, ![1048576, 64]⟩
abbrev S1048576 : Shape := ⟨1, ![1048576]⟩
abbrev S1 : Shape := ⟨1, ![1]⟩
abbrev S64x20x256 : Shape := ⟨3, ![64, 20, 256]⟩
abbrev S8x256x384 : Shape := ⟨3, ![8, 256, 384]⟩
abbrev S8x20x256 : Shape := ⟨3, ![8, 20, 256]⟩
abbrev S1x256x384 : Shape := ⟨3, ![1, 256, 384]⟩
abbrev S256x384 : Shape := ⟨2, ![256, 384]⟩
abbrev S20x256 : Shape := ⟨2, ![20, 256]⟩
abbrev S1x20x256 : Shape := ⟨3, ![1, 20, 256]⟩
abbrev S20x64x256 : Shape := ⟨3, ![20, 64, 256]⟩
abbrev S2 : Shape := ⟨1, ![2]⟩
abbrev S1x1048576 : Shape := ⟨2, ![1, 1048576]⟩
abbrev S20x1048576 : Shape := ⟨2, ![20, 1048576]⟩
abbrev S4096x64 : Shape := ⟨2, ![4096, 64]⟩
abbrev S1x4096 : Shape := ⟨2, ![1, 4096]⟩
abbrev S20x4096 : Shape := ⟨2, ![20, 4096]⟩
abbrev S20 : Shape := ⟨1, ![20]⟩
abbrev S20x1 : Shape := ⟨2, ![20, 1]⟩
abbrev S128x64 : Shape := ⟨2, ![128, 64]⟩
abbrev S64x128 : Shape := ⟨2, ![64, 128]⟩
abbrev S8x128 : Shape := ⟨2, ![8, 128]⟩
abbrev S1x8x128 : Shape := ⟨3, ![1, 8, 128]⟩
abbrev S8x128x1 : Shape := ⟨3, ![8, 128, 1]⟩
abbrev S128 : Shape := ⟨1, ![128]⟩
abbrev S1x128 : Shape := ⟨2, ![1, 128]⟩
abbrev S20x128 : Shape := ⟨2, ![20, 128]⟩

abbrev nBuf : Space → Nat
  | .hbm => 11
  | .vmem => 13
  | .smem => 1
  | _ => 0

abbrev bufTy : (tb : Table) → Fin (tcTables nBuf tb) → BufTy
  | .hbm, ⟨0, _⟩ => ⟨S20x384, .bf16⟩
  | .hbm, ⟨1, _⟩ => ⟨S64x256x384, .bf16⟩
  | .hbm, ⟨2, _⟩ => ⟨S1048576x64, .i8⟩
  | .hbm, ⟨3, _⟩ => ⟨S1048576, .i8⟩
  | .hbm, ⟨4, _⟩ => ⟨S1, .f32⟩
  | .hbm, ⟨5, _⟩ => ⟨S1, .f32⟩
  | .hbm, ⟨6, _⟩ => ⟨S64x20x256, .f32⟩
  | .hbm, ⟨7, _⟩ => ⟨S20x64x256, .f32⟩
  | .hbm, ⟨8, _⟩ => ⟨S2, .f32⟩
  | .hbm, ⟨9, _⟩ => ⟨S1x1048576, .i8⟩
  | .hbm, ⟨10, _⟩ => ⟨S20x1048576, .bf16⟩
  | .local _ .vmem, ⟨0, _⟩ => ⟨S20x384, .bf16⟩
  | .local _ .vmem, ⟨1, _⟩ => ⟨S8x256x384, .bf16⟩
  | .local _ .vmem, ⟨2, _⟩ => ⟨S8x256x384, .bf16⟩
  | .local _ .vmem, ⟨3, _⟩ => ⟨S8x20x256, .f32⟩
  | .local _ .vmem, ⟨4, _⟩ => ⟨S8x20x256, .f32⟩
  | .local _ .vmem, ⟨5, _⟩ => ⟨S20x384, .bf16⟩
  | .local _ .vmem, ⟨6, _⟩ => ⟨S20x64x256, .f32⟩
  | .local _ .vmem, ⟨7, _⟩ => ⟨S4096x64, .i8⟩
  | .local _ .vmem, ⟨8, _⟩ => ⟨S4096x64, .i8⟩
  | .local _ .vmem, ⟨9, _⟩ => ⟨S1x4096, .i8⟩
  | .local _ .vmem, ⟨10, _⟩ => ⟨S1x4096, .i8⟩
  | .local _ .vmem, ⟨11, _⟩ => ⟨S20x4096, .bf16⟩
  | .local _ .vmem, ⟨12, _⟩ => ⟨S20x4096, .bf16⟩
  | .local _ .smem, ⟨0, _⟩ => ⟨S2, .f32⟩
  | _, _ => ⟨S20x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S20x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x256x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x20x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![256], ![false]⟩

@[reducible] def k1_t1_loop : Scf.Loop 32 :=
  let c0_i32 : BitVec 32 := 0#32
  let c32_i32 : BitVec 32 := 32#32
  let v10 : BitVec 32 := Scalar.addi c0_i32 c32_i32
  let c1_i32 : BitVec 32 := 1#32
  ⟨c0_i32, v10, c1_i32⟩
def k1_off1 (k1_t1 : Fin k1_t1_loop.trips) : Fin 2 → Nat :=
  let c0_i32 : BitVec 32 := 0#32
  let c1_i32 : BitVec 32 := 1#32
  let arg7 : BitVec 32 := Scf.iv c0_i32 c1_i32 k1_t1
  let c128_i32 : BitVec 32 := 128#32
  let v11 : BitVec 32 := Scalar.muli arg7 c128_i32
  let v12 : Index := Scalar.indexCast v11
  let c0_5 : Index := 0#32
  ![v12.toNat, 0]
def k1_off2 (k1_t1 : Fin k1_t1_loop.trips) : Fin 2 → Nat :=
  let c0_1637 : Index := 0#32
  let c0_i32 : BitVec 32 := 0#32
  let c1_i32 : BitVec 32 := 1#32
  let arg7 : BitVec 32 := Scf.iv c0_i32 c1_i32 k1_t1
  let c128_i32 : BitVec 32 := 128#32
  let v11 : BitVec 32 := Scalar.muli arg7 c128_i32
  let v3637 : Index := Scalar.indexCast v11
  ![0, v3637.toNat]
def k1_off3 (k1_t1 : Fin k1_t1_loop.trips) : Fin 2 → Nat :=
  let c0_1640 : Index := 0#32
  let c0_i32 : BitVec 32 := 0#32
  let c1_i32 : BitVec 32 := 1#32
  let arg7 : BitVec 32 := Scf.iv c0_i32 c1_i32 k1_t1
  let c128_i32 : BitVec 32 := 128#32
  let v11 : BitVec 32 := Scalar.muli arg7 c128_i32
  let v3655 : Index := Scalar.indexCast v11
  ![0, v3655.toNat]
def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .smem S2 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S20x384 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S20x64x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x64 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x4096 .i8 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S20x4096 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S20x384 : Shape := ⟨2, ![20, 384]⟩
abbrev S64x256x384 : Shape := ⟨3, ![64, 256, 384]⟩
abbrev S1048576x64 : Shape := ⟨2, ![1048576, 64]⟩
abbrev S1048576 : Shape := ⟨1, ![1048576]⟩
abbrev S1 : Shape := ⟨1, ![1]⟩
abbrev S20x64x256 : Shape := ⟨3, ![20, 64, 256]⟩
abbrev S_ : Shape := ⟨0, ![]⟩
abbrev S20 : Shape := ⟨1, ![20]⟩
abbrev S64 : Shape := ⟨1, ![64]⟩
abbrev S1x64 : Shape := ⟨2, ![1, 64]⟩
abbrev S1048576x64x1 : Shape := ⟨3, ![1048576, 64, 1]⟩
abbrev S1048576x64x2 : Shape := ⟨3, ![1048576, 64, 2]⟩
abbrev S20x1048576x64 : Shape := ⟨3, ![20, 1048576, 64]⟩
abbrev S20x1048576 : Shape := ⟨2, ![20, 1048576]⟩
abbrev S20x1 : Shape := ⟨2, ![20, 1]⟩
abbrev S1x1048576 : Shape := ⟨2, ![1, 1048576]⟩

abbrev nBuf : Space → Nat
  | .hbm => 60
  | .vmem => 0
  | .smem => 0
  | _ => 0

abbrev bufTy : (tb : Table) → Fin (tcTables nBuf tb) → BufTy
  | .hbm, ⟨0, _⟩ => ⟨S20x384, .bf16⟩
  | .hbm, ⟨1, _⟩ => ⟨S64x256x384, .bf16⟩
  | .hbm, ⟨2, _⟩ => ⟨S1048576x64, .i8⟩
  | .hbm, ⟨3, _⟩ => ⟨S1048576, .i8⟩
  | .hbm, ⟨4, _⟩ => ⟨S1, .f32⟩
  | .hbm, ⟨5, _⟩ => ⟨S1, .f32⟩
  | .hbm, ⟨6, _⟩ => ⟨S20x64x256, .f32⟩
  | .hbm, ⟨7, _⟩ => ⟨S20x384, .f32⟩
  | .hbm, ⟨8, _⟩ => ⟨S20x384, .f32⟩
  | .hbm, ⟨9, _⟩ => ⟨S_, .f32⟩
  | .hbm, ⟨10, _⟩ => ⟨S20, .f32⟩
  | .hbm, ⟨11, _⟩ => ⟨S64, .i32⟩
  | .hbm, ⟨12, _⟩ => ⟨S1x64, .i32⟩
  | .hbm, ⟨13, _⟩ => ⟨S1048576x64, .i32⟩
  | .hbm, ⟨14, _⟩ => ⟨S_, .i32⟩
  | .hbm, ⟨15, _⟩ => ⟨S1x64, .i32⟩
  | .hbm, ⟨16, _⟩ => ⟨S1x64, .i1⟩
  | .hbm, ⟨17, _⟩ => ⟨S_, .i32⟩
  | .hbm, ⟨18, _⟩ => ⟨S1x64, .i32⟩
  | .hbm, ⟨19, _⟩ => ⟨S1x64, .i32⟩
  | .hbm, ⟨20, _⟩ => ⟨S1x64, .i32⟩
  | .hbm, ⟨21, _⟩ => ⟨S_, .i32⟩
  | .hbm, ⟨22, _⟩ => ⟨S1048576x64, .i32⟩
  | .hbm, ⟨23, _⟩ => ⟨S1048576x64, .i1⟩
  | .hbm, ⟨24, _⟩ => ⟨S_, .i32⟩
  | .hbm, ⟨25, _⟩ => ⟨S1048576x64, .i32⟩
  | .hbm, ⟨26, _⟩ => ⟨S1048576x64, .i32⟩
  | .hbm, ⟨27, _⟩ => ⟨S1048576x64, .i32⟩
  | .hbm, ⟨28, _⟩ => ⟨S1048576x64, .i32⟩
  | .hbm, ⟨29, _⟩ => ⟨S1048576x64x1, .i32⟩
  | .hbm, ⟨30, _⟩ => ⟨S1048576x64x1, .i32⟩
  | .hbm, ⟨31, _⟩ => ⟨S1048576x64x2, .i32⟩
  | .hbm, ⟨32, _⟩ => ⟨S20x1048576x64, .f32⟩
  | .hbm, ⟨33, _⟩ => ⟨S_, .f32⟩
  | .hbm, ⟨34, _⟩ => ⟨S20x1048576, .f32⟩
  | .hbm, ⟨35, _⟩ => ⟨S_, .f32⟩
  | .hbm, ⟨36, _⟩ => ⟨S1048576, .i32⟩
  | .hbm, ⟨37, _⟩ => ⟨S1048576, .f32⟩
  | .hbm, ⟨38, _⟩ => ⟨S_, .f32⟩
  | .hbm, ⟨39, _⟩ => ⟨S1048576, .f32⟩
  | .hbm, ⟨40, _⟩ => ⟨S1048576, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1048576, .f32⟩
  | .hbm, ⟨47, _⟩ => ⟨S1048576, .f32⟩
  | .hbm, ⟨48, _⟩ => ⟨S1048576, .f32⟩
  | .hbm, ⟨49, _⟩ => ⟨S1048576, .f32⟩
  | .hbm, ⟨50, _⟩ => ⟨S20x1, .f32⟩
  | .hbm, ⟨51, _⟩ => ⟨S_, .f32⟩
  | .hbm, ⟨52, _⟩ => ⟨S20x1048576, .f32⟩
  | .hbm, ⟨53, _⟩ => ⟨S20x1048576, .f32⟩
  | .hbm, ⟨54, _⟩ => ⟨S20x1048576, .f32⟩
  | .hbm, ⟨55, _⟩ => ⟨S20x1048576, .f32⟩
  | .hbm, ⟨56, _⟩ => ⟨S1x1048576, .f32⟩
  | .hbm, ⟨57, _⟩ => ⟨S20x1048576, .f32⟩
  | .hbm, ⟨58, _⟩ => ⟨S20x1048576, .f32⟩
  | .hbm, ⟨59, _⟩ => ⟨S20x1048576, .bf16⟩
  | _, _ => ⟨S20x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Proof.Lut.lean ====
/- The table region: what its output array holds after the run. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI Idealize.SL.Sem
open Idealize.ShloMosaic.Pipeline (Dat)

theorem inb_in (i : Fin 8) : ∀ a, (![i.val, 0, 0] : Fin 3 → Nat) a + S1x256x384.size a ≤ S8x256x384.size a := by
  revert i; decide
theorem inb_out (i : Fin 8) : ∀ a, (![i.val, 0, 0] : Fin 3 → Nat) a + S1x20x256.size a ≤ S8x20x256.size a := by
  revert i; decide

/-- One subspace's tile: the inner products of the queries with its codewords. -/
theorem k0_pay1_at (x : Vec Ideal S20x384 .bf16) (b : Vec Ideal S1x256x384 .bf16) (q : Fin 20) (k : Fin 256) :
    k0_pay1 x b (ix3 0 q k) = ∑ d : Fin 384, x (ix2 q d) * b (ix3 0 k d) := by
  pointwise [k0_pay1]

/-- Inner products, subspace first: subspace `s`, query `q`, codeword `k`. -/
def blockLut {n : Nat} (x : Vec Ideal S20x384 .bf16) (b : (⟨3, ![n, 256, 384]⟩ : Shape).Idx → EReal) (s : Fin n) (q : Fin 20) (k : Fin 256) : EReal :=
  ∑ d : Fin 384, x (ix2 q d) * b (ix3 s k d)

theorem blockLut_congr {n n' : Nat} (x : Vec Ideal S20x384 .bf16) (b : (⟨3, ![n, 256, 384]⟩ : Shape).Idx → EReal)
    (b' : (⟨3, ![n', 256, 384]⟩ : Shape).Idx → EReal) (s : Fin n) (s' : Fin n') (q : Fin 20) (k : Fin 256)
    (h : ∀ d : Fin 384, b (ix3 s k d) = b' (ix3 s' k d)) : blockLut x b s q k = blockLut x b' s' q k :=
  Finset.sum_congr rfl fun d _ => congrArg (x (ix2 q d) * ·) (h d)

/-- The eight stores of one point, read back. -/
theorem out0_eq (x0 : Vec Ideal S20x384 .bf16) (x1 : Vec Ideal S8x256x384 .bf16) :
    out0_2 x0 x1 = fun y => blockLut x0 x1 (y 0) (y 1) (y 2) := by
  funext y
  unfold out0_2
  refine View.canon_apply_of_pieces (Val := Elt Ideal) (fun y : S8x20x256.Idx => blockLut x0 x1 (y 0) (y 1) (y 2)) _ (fun p hp j => ?_) y (cover0_2 _ _ _ _ _ _ _ _ y)
  obtain ⟨i, rfl⟩ : ∃ i : Fin 8, p = ⟨Rect.unit (s := S8x20x256) ![i.val, 0, 0] S1x20x256.size (inb_out i),
      k0_pay1 (F := Ideal) x0 (View.ld x1 (Rect.unit (s := S8x256x384) ![i.val, 0, 0] S1x256x384.size (inb_in i)))⟩ := by
    have e : View.ld x0 r0_0 = x0 := View.ld_unit_zero (funext fun a => by
      match a with
      | ⟨0, _⟩ => rfl
      | ⟨1, _⟩ => rfl) _ _
    rw [e] at hp
    simp only [List.mem_cons, List.not_mem_nil, or_false] at hp
    rcases hp with rfl | rfl | rfl | rfl | rfl | rfl | rfl | rfl
    exacts [⟨7, rfl⟩, ⟨6, rfl⟩, ⟨5, rfl⟩, ⟨4, rfl⟩, ⟨3, rfl⟩, ⟨2, rfl⟩, ⟨1, rfl⟩, ⟨0, rfl⟩]
  idx_vars j
  obtain rfl : j0 = 0 := Subsingleton.elim _ _
  have e0 : ((Rect.unit (s := S8x20x256) ![i.val, 0, 0] S1x20x256.size (inb_out i)).emb (ix3 0 j1 j2)) 0 = i :=
    Fin.ext (ValueKit.rect_emb_unit_val _ _ _ _ _)
  have e1 : ((Rect.unit (s := S8x20x256) ![i.val, 0, 0] S1x20x256.size (inb_out i)).emb (ix3 0 j1 j2)) 1 = j1 :=
    Fin.ext ((ValueKit.rect_emb_unit_val _ _ _ _ _).trans (Nat.zero_add _))
  have e2 : ((Rect.unit (s := S8x20x256) ![i.val, 0, 0] S1x20x256.size (inb_out i)).emb (ix3 0 j1 j2)) 2 = j2 :=
    Fin.ext ((ValueKit.rect_emb_unit_val _ _ _ _ _).trans (Nat.zero_add _))
  show _ = blockLut x0 x1 _ _ _
  rw [e0, e1, e2]
  refine (k0_pay1_at _ _ j1 j2).trans (Finset.sum_congr rfl fun d _ => congrArg (x0 (ix2 j1 d) * ·) ?_)
  refine View.ld_unit_apply_of _ _ _ _ _ _ fun a => ?_
  match a with
  | ⟨0, _⟩ => rfl
  | ⟨1, _⟩ => exact (Nat.zero_add _).symm
  | ⟨2, _⟩ => exact (Nat.zero_add _).symm

/-- Every window's block index, at all grid points. -/
theorem idx0 : ∀ t : Fin cfg0.N, win0_0.index t = ![0, 0] ∧ win0_1.index t = ![t.val, 0, 0] ∧ win0_2.index t = ![t.val, 0, 0] :=
  (by decide +kernel : ∀ t : Fin grid0.N, _)

section Array
variable (V : (c : Dev nD) → (b : Ref sig .tc) → Buf (Elt Ideal) ((c : Thread nD τ).loc b)) (c : Dev nD)

theorem iblk0_0 (t : Fin cfg0.N) : iblk0 V c 0 t = V c main_arg0 := by blk_ext! [iblk0, idx0 t]

/-- The tables, subspace first: the inner product of a query with a codeword. -/
theorem lut_final : (dat0 V c).arrAt 2 cfg0.N
    = fun i : S64x20x256.Idx => blockLut (V c main_arg0) (V c main_arg1) (i 0) (i 1) (i 2) := by
  refine (dat0 V c).arrAt_eq_of_covers 2 _ (by decide +kernel) fun t _ y => ?_
  blk_simp
  rw [after0_2, out0_eq, iblk0_0]
  have e0 : (win0_2.blk t).view.emb y 1 = y 1 := Fin.ext (by blk_simp [idx0 t])
  have e1 : (win0_2.blk t).view.emb y 2 = y 2 := Fin.ext (by blk_simp [idx0 t])
  have e2 (d : Fin 384) : iblk0 V c 1 t (ix3 (y 0) (y 2) d) = V c main_arg1 (ix3 ((win0_2.blk t).view.emb y 0) (y 2) d) := by
    blk_ext [iblk0, idx0 t]
  dsimp only
  rw [e0, e1]
  exact blockLut_congr _ _ _ _ _ _ _ e2

end Array

end Cert.KernelIdeal.Value

end
-- ==== Proof.Trip.lean ====
/- One trip of the search kernel's loop: the one tile it stores, as twenty running sums of eight lookups each. -/
module

public import proofs.«01_k».proof.Proof.Gen.KernelIdeal.Loops
import all proofs.«01_k».proof.Proof.Gen.KernelIdeal.Loops

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI Idealize.SL.Sem

variable {F : FTy → Type} [FloatOps F]

/-- A lookup in one half of the table rows: each lane reads its sublane's row at the position `low` names. -/
def takeHalf (low : IVec S8x128 32) (a : Vec F S1x8x128 .f32) : FVec F S8x128 .f32 :=
  dynamicGather 1 (shapeCast S8x128 a shapeCasts_S1x8x128_S8x128)
    (shapeCast S8x128 (shapeCast S8x128x1
      (select (cmpi .slt low (broadcast S8x128 0#32)) (addi low (broadcast S8x128 128#32)) low)
      shapeCasts_S8x128_S8x128x1) shapeCasts_S8x128x1_S8x128)

/-- One step of a running sum: the lookup of eight subspaces' codes, in the lower or the upper half of the rows. -/
def gstep (code : IVec S8x128 32) (prev : FVec F S8x128 .f32) (a b : Vec F S1x8x128 .f32) : FVec F S8x128 .f32 :=
  addf prev (select (cmpi .sge code (broadcast S8x128 128#32))
    (takeHalf (andi code (broadcast S8x128 127#32)) b) (takeHalf (andi code (broadcast S8x128 127#32)) a))

theorem slices_g (g : Fin 8) : S64x128.Slices ![8 * g.val, 0] S8x128 := by
  revert g; decide

/-- The codes of eight subspaces, widened and turned so that subspaces run along sublanes. -/
def codesAt (C : Vec F S128x64 .i8) (g : Fin 8) : IVec S8x128 32 :=
  extractStridedSlice S8x128 ![8 * g.val, 0]
    (transpose S64x128 [1, 0] (extui 32 C natLt_8_32) transposes_S128x64_p1_0_S64x128) (slices_g g)

/-- One query's running sum after all eight groups of subspaces. -/
def accOf (C : Vec F S128x64 .i8) (A B : Fin 8 → Vec F S1x8x128 .f32) : FVec F S8x128 .f32 :=
  gstep (codesAt C 7) (gstep (codesAt C 6) (gstep (codesAt C 5) (gstep (codesAt C 4)
    (gstep (codesAt C 3) (gstep (codesAt C 2) (gstep (codesAt C 1) (gstep (codesAt C 0)
      (broadcast S8x128 (Scalar.ofBits .f32 0x00000000#32)) (A 0) (B 0)) (A 1) (B 1)) (A 2) (B 2)) (A 3) (B 3))
      (A 4) (B 4)) (A 5) (B 5)) (A 6) (B 6)) (A 7) (B 7)

/-- Its sum over the eight sublanes, as a row. -/
def rowOf (C : Vec F S128x64 .i8) (A B : Fin 8 → Vec F S1x8x128 .f32) : FVec F S1x128 .f32 :=
  shapeCast S1x128 (multiReduction .add [0] S128 (accOf C A B) 0x00000000#32 reduces_S8x128_S128 (.inl rfl) rfl)
    shapeCasts_S128_S1x128

/-- The twenty rows stacked. -/
def ipOf (C : Vec F S128x64 .i8) (A B : Fin 20 → Fin 8 → Vec F S1x8x128 .f32) : FVec F S20x128 .f32 :=
  concatenate S20x128 0
    [⟨S1x128, rowOf C (A 0) (B 0)⟩, ⟨S1x128, rowOf C (A 1) (B 1)⟩, ⟨S1x128, rowOf C (A 2) (B 2)⟩,
     ⟨S1x128, rowOf C (A 3) (B 3)⟩, ⟨S1x128, rowOf C (A 4) (B 4)⟩, ⟨S1x128, rowOf C (A 5) (B 5)⟩,
     ⟨S1x128, rowOf C (A 6) (B 6)⟩, ⟨S1x128, rowOf C (A 7) (B 7)⟩, ⟨S1x128, rowOf C (A 8) (B 8)⟩,
     ⟨S1x128, rowOf C (A 9) (B 9)⟩, ⟨S1x128, rowOf C (A 10) (B 10)⟩, ⟨S1x128, rowOf C (A 11) (B 11)⟩,
     ⟨S1x128, rowOf C (A 12) (B 12)⟩, ⟨S1x128, rowOf C (A 13) (B 13)⟩, ⟨S1x128, rowOf C (A 14) (B 14)⟩,
     ⟨S1x128, rowOf C (A 15) (B 15)⟩, ⟨S1x128, rowOf C (A 16) (B 16)⟩, ⟨S1x128, rowOf C (A 17) (B 17)⟩,
     ⟨S1x128, rowOf C (A 18) (B 18)⟩, ⟨S1x128, rowOf C (A 19) (B 19)⟩]
    concatenates_S1x128_S1x128_S1x128_S1x128_S1x128_S1x128_S1x128_S1x128_S1x128_S1x128_S1x128_S1x128_S1x128_S1x128_S1x128_S1x128_S1x128_S1x128_S1x128_S1x128_S20x128_d0

theorem inb_lo (q : Fin 20) (g : Fin 8) :
    ∀ a, (![q.val, 8 * g.val, 0] : Fin 3 → Nat) a + S1x8x128.size a ≤ S20x64x256.size a := by
  revert q g; decide +kernel
theorem inb_hi (q : Fin 20) (g : Fin 8) :
    ∀ a, (![q.val, 8 * g.val, 128] : Fin 3 → Nat) a + S1x8x128.size a ≤ S20x64x256.size a := by
  revert q g; decide +kernel

/-- The tile one trip stores. -/
def tripPay (arg3 : Memref sig .tc .vmem S20x64x256 .f32) (arg4 : Memref sig .tc .vmem S4096x64 .i8) (arg5 : Memref sig .tc .vmem S1x4096 .i8)
    (v0 : Vec F S20x384 .bf16) (v5 : Elt F .f32) (v6 : Elt F .f32) (v7 : Elt F .f32)
    (X_arg3 : BufTy.Contents (Elt F) arg3.view.ty) (X_arg4 : BufTy.Contents (Elt F) arg4.view.ty) (X_arg5 : BufTy.Contents (Elt F) arg5.view.ty)
    (k : Fin k1_t1_loop.trips) : FVec F S20x128 .bf16 :=
  k1_pay2 v0 v5 v6 v7
    (ipOf (View.readAt (Elt F) arg4.view (Rect.unit (s := S4096x64) (k1_off1 k) S128x64.size (k1_off1_inb k)).toLoadRect X_arg4)
      (fun q g => View.readAt (Elt F) arg3.view (Rect.unit (s := S20x64x256) ![q.val, 8 * g.val, 0] S1x8x128.size (inb_lo q g)).toLoadRect X_arg3)
      (fun q g => View.readAt (Elt F) arg3.view (Rect.unit (s := S20x64x256) ![q.val, 8 * g.val, 128] S1x8x128.size (inb_hi q g)).toLoadRect X_arg3))
    (View.readAt (Elt F) arg5.view (Rect.unit (s := S1x4096) (k1_off2 k) S1x128.size (k1_off2_inb k)).toLoadRect X_arg5)

theorem tripL_eq (𝒱 : Variants) (c : Dev nD) (bd : Option 𝒱.V) (i : grid1.Coords) (arg1 : Memref sig .tc .smem S2 .f32) (harg1 : arg1.IsWhole) (arg2 : Memref sig .tc .vmem S20x384 .bf16) (harg2 : arg2.IsWhole) (arg3 : Memref sig .tc .vmem S20x64x256 .f32) (harg3 : arg3.IsWhole) (arg4 : Memref sig .tc .vmem S4096x64 .i8) (harg4 : arg4.IsWhole) (arg5 : Memref sig .tc .vmem S1x4096 .i8) (harg5 : arg5.IsWhole) (arg6 : Memref sig .tc .vmem S20x4096 .bf16) (harg6 : arg6.IsWhole) (v0 : Vec F S20x384 .bf16) (v5 : Elt F .f32) (v6 : Elt F .f32) (v7 : Elt F .f32) (X_arg3 : BufTy.Contents (Elt F) arg3.view.ty) (X_arg4 : BufTy.Contents (Elt F) arg4.view.ty) (X_arg5 : BufTy.Contents (Elt F) arg5.view.ty) (k : Fin k1_t1_loop.trips) :
    tripL_k1_t1 (F := F) 𝒱 c bd i arg1 harg1 arg2 harg2 arg3 harg3 arg4 harg4 arg5 harg5 arg6 harg6 v0 v5 v6 v7 X_arg3 X_arg4 X_arg5 k
      = [⟨Rect.unit (s := S20x4096) (k1_off3 k) S20x128.size (k1_off3_inb k), tripPay arg3 arg4 arg5 v0 v5 v6 v7 X_arg3 X_arg4 X_arg5 k⟩] := by
  unfold tripL_k1_t1 trip_k1_t1
  dsimp only
  unfold tripPay
  sl_kernel_rfl

end Cert.KernelIdeal.Value

end
-- ==== Proof.Spec.lean ====
/- The distance of one query to one row, as a plain formula over the extended reals: what both programs are shown to store. -/
module

public import Idealize.ShloMosaic.Lib.Pointwise

@[expose] public section

noncomputable section

namespace Cert.Spec

open Idealize.ShloMosaic

/-- The table entry a code names: the code's unsigned value, below 256. -/
def codeIx (c : BitVec 8) : Fin 256 := ⟨c.toNat, c.isLt⟩

/-- The distance: the query's squared norm, less twice the sum of the table entries the row's codes name, plus the
    row's squared norm decoded from its code. -/
def distOf (x : Fin 384 → EReal) (l : Fin 64 → Fin 256 → EReal) (c : Fin 64 → BitVec 8) (n : BitVec 8) (lo hi : EReal) : EReal :=
  (∑ k : Fin 384, x k * x k) - Ideal.ofBits .f32 0x40000000#32 * (∑ s : Fin 64, l s (codeIx (c s)))
    + (lo + ((Scalar.sitofp (F := Ideal) .f32 (n.setWidth 32) : EReal) + Ideal.ofBits .f32 0x3F000000#32)
        * Ideal.div (hi - lo) (Ideal.ofBits .f32 0x43800000#32))

end Cert.Spec

end
-- ==== Proof.TripSpec.lean ====
/- One trip's tile on the reals: at query q and lane l, the distance of that row. -/
module

public import proofs.«01_k».proof.Proof.Trip
public import proofs.«01_k».proof.Proof.Spec
public import Idealize.ShloMosaic.Lib.Pointwise

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI Idealize.SL.Sem

theorem takeHalf_at (low : IVec S8x128 32) (a : Vec Ideal S1x8x128 .f32) (s : Fin 8) (l : Fin 128) (k : Fin 128)
    (h : low (ix2 s l) = BitVec.ofNat 32 k.val) : takeHalf low a (ix2 s l) = a (ix3 0 s k) := by
  pointwise [takeHalf]
  have hk := k.isLt
  have e : Scalar.select (IntOp.cmpi CmpIPredicate.slt (low (ix2 s l)) 0#32) (IntOp.addi (low (ix2 s l)) 128#32) (low (ix2 s l))
      = BitVec.ofNat 32 k.val := by
    rw [h]; clear h hk; revert k; decide +kernel
  refine congrArg a (congrArg (ix3 0 s) (Fin.ext ?_))
  show (Scalar.select _ _ _ : BitVec 32).toNat % 128 = k.val
  rw [e, BitVec.toNat_ofNat]; omega

theorem codesAt_at (C : Vec Ideal S128x64 .i8) (g : Fin 8) (s : Fin 8) (l : Fin 128) :
    codesAt C g (ix2 s l) = (C (ix2 l ⟨g.val * 8 + s.val, by omega⟩)).setWidth 32 := by
  pointwise [codesAt]
  refine congrArg (fun i => (C i).setWidth 32) (congrArg (ix2 l) (Fin.ext ?_))
  show 8 * g.val + s.val = g.val * 8 + s.val
  omega

theorem low_word (c : BitVec 8) : IntOp.andi (c.setWidth 32) 127#32 = BitVec.ofNat 32 (c.toNat % 128) := by
  revert c; decide +kernel
theorem high_word (c : BitVec 8) : IntOp.cmpi .sge (c.setWidth 32) 128#32 = BitVec.ofBool (decide (128 ≤ c.toNat)) := by
  revert c; decide +kernel

theorem gstep_at (code : IVec S8x128 32) (prev : FVec Ideal S8x128 .f32) (a b : Vec Ideal S1x8x128 .f32) (s : Fin 8) (l : Fin 128)
    (M : Fin 256 → EReal) (c : BitVec 8) (hc : code (ix2 s l) = c.setWidth 32)
    (ha : ∀ k : Fin 128, a (ix3 0 s k) = M ⟨k.val, by omega⟩) (hb : ∀ k : Fin 128, b (ix3 0 s k) = M ⟨128 + k.val, by omega⟩) :
    gstep code prev a b (ix2 s l) = prev (ix2 s l) + M (Spec.codeIx c) := by
  pointwise [gstep]
  have hl : (andi code (broadcast S8x128 127#32)) (ix2 s l) = BitVec.ofNat 32 (c.toNat % 128) := by
    show IntOp.andi (code (ix2 s l)) 127#32 = _
    rw [hc, low_word]
  have h8 : c.toNat < 256 := c.isLt
  refine congrArg (prev (ix2 s l) + ·) ?_
  rw [takeHalf_at _ _ s l ⟨c.toNat % 128, by omega⟩ hl, takeHalf_at _ _ s l ⟨c.toNat % 128, by omega⟩ hl, ha, hb, hc, high_word]
  by_cases h : 128 ≤ c.toNat
  · rw [decide_eq_true h]
    refine congrArg M (Fin.ext ?_)
    show 128 + c.toNat % 128 = c.toNat
    omega
  · rw [decide_eq_false h]
    refine congrArg M (Fin.ext ?_)
    show c.toNat % 128 = c.toNat
    omega

/-- A query's running sum, where the table's halves are read off `M`: the eight entries the codes name. -/
theorem accOf_at (C : Vec Ideal S128x64 .i8) (A B : Fin 8 → Vec Ideal S1x8x128 .f32) (M : Fin 64 → Fin 256 → EReal)
    (hA : ∀ g s (k : Fin 128), A g (ix3 0 s k) = M ⟨g.val * 8 + s.val, by omega⟩ ⟨k.val, by omega⟩)
    (hB : ∀ g s (k : Fin 128), B g (ix3 0 s k) = M ⟨g.val * 8 + s.val, by omega⟩ ⟨128 + k.val, by omega⟩)
    (s : Fin 8) (l : Fin 128) :
    accOf C A B (ix2 s l) = ∑ g : Fin 8, M ⟨g.val * 8 + s.val, by omega⟩ (Spec.codeIx (C (ix2 l ⟨g.val * 8 + s.val, by omega⟩))) := by
  have step (g : Fin 8) (prev : FVec Ideal S8x128 .f32) :
      gstep (codesAt C g) prev (A g) (B g) (ix2 s l)
        = prev (ix2 s l) + M ⟨g.val * 8 + s.val, by omega⟩ (Spec.codeIx (C (ix2 l ⟨g.val * 8 + s.val, by omega⟩))) :=
    gstep_at _ _ _ _ s l _ _ (codesAt_at C g s l) (hA g s) (hB g s)
  rw [Fin.sum_univ_eight]
  unfold accOf
  rw [step, step, step, step, step, step, step, step]
  have z : broadcast S8x128 (Scalar.ofBits (F := Ideal) .f32 0x00000000#32) (ix2 s l) = (0 : EReal) := by
    pointwise
  rw [z, zero_add]

theorem rowOf_at (C : Vec Ideal S128x64 .i8) (A B : Fin 8 → Vec Ideal S1x8x128 .f32) (M : Fin 64 → Fin 256 → EReal)
    (hA : ∀ g s (k : Fin 128), A g (ix3 0 s k) = M ⟨g.val * 8 + s.val, by omega⟩ ⟨k.val, by omega⟩)
    (hB : ∀ g s (k : Fin 128), B g (ix3 0 s k) = M ⟨g.val * 8 + s.val, by omega⟩ ⟨128 + k.val, by omega⟩) (l : Fin 128) :
    rowOf C A B (ix2 0 l) = ∑ s : Fin 64, M s (Spec.codeIx (C (ix2 l s))) := by
  have e : rowOf C A B (ix2 0 l) = ∑ s : Fin 8, accOf C A B (ix2 s l) := by
    pointwise [rowOf]
  rw [e, Fin.sum_univ_tiles 8 8 rfl, Finset.sum_comm]
  exact Finset.sum_congr rfl fun s _ => accOf_at C A B M hA hB s l

/-- The stacked rows, read at query `q`: that query's row. -/
theorem ipOf_at (C : Vec Ideal S128x64 .i8) (A B : Fin 20 → Fin 8 → Vec Ideal S1x8x128 .f32) (q : Fin 20) (l : Fin 128) :
    ipOf C A B (ix2 q l) = rowOf C (A q) (B q) (ix2 0 l) := by
  exact concatenate_ofFn_unit_apply (s₁ := S1x128) (t := S20x128) 0 (fun q : Fin 20 => rowOf C (A q) (B q))
    concatenates_S1x128_S1x128_S1x128_S1x128_S1x128_S1x128_S1x128_S1x128_S1x128_S1x128_S1x128_S1x128_S1x128_S1x128_S1x128_S1x128_S1x128_S1x128_S1x128_S1x128_S20x128_d0
    rfl rfl (ix2 q l) q rfl (ix2 0 l) fun b hb => by
      match b with
      | ⟨0, _⟩ => exact absurd rfl hb
      | ⟨1, _⟩ => rfl

theorem k1_pay2_at (v0 : Vec Ideal S20x384 .bf16) (v5 v6 v7 : Elt Ideal .f32) (ip : FVec Ideal S20x128 .f32) (N : Vec Ideal S1x128 .i8)
    (q : Fin 20) (l : Fin 128) (M : Fin 64 → Fin 256 → EReal) (c : Fin 64 → BitVec 8)
    (h : ip (ix2 q l) = ∑ s, M s (Spec.codeIx (c s))) (h57 : v5 = v7) :
    k1_pay2 v0 v5 v6 v7 ip N (ix2 q l)
      = Spec.distOf (fun k => v0 (ix2 q k)) M c (N (ix2 0 l)) v5 v6 := by
  subst h57
  pointwise [k1_pay2, Spec.distOf]
  rw [h]
  rfl

end Cert.KernelIdeal.Value

end
-- ==== Proof.Search.lean ====
/- The search region: what its output array holds after the run. -/
module

public import proofs.«01_k».proof.Proof.TripSpec
public import proofs.«01_k».proof.Proof.Gen.KernelIdeal.Frame
public import Idealize.ShloMosaic.Lib.Pipeline.ValueKit

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI Idealize.SL.Sem
open Idealize.ShloMosaic.Pipeline (Dat)

/-- Distances of a block: query by row. -/
def blockDist {n : Nat} (x0 : Vec Ideal S2 .f32) (x1 : Vec Ideal S20x384 .bf16) (x2 : Vec Ideal S20x64x256 .f32)
    (x3 : (⟨2, ![n, 64]⟩ : Shape).Idx → BitVec 8) (x4 : (⟨2, ![1, n]⟩ : Shape).Idx → BitVec 8) (q : Fin 20) (r : Fin n) : EReal :=
  Spec.distOf (fun k => x1 (ix2 q k)) (fun s j => x2 (ix3 q s j)) (fun s => x3 (ix2 r s)) (x4 (ix2 0 r)) (x0 (ix1 0)) (x0 (ix1 1))

section Block
variable (c : Dev nD) (c : Dev nD) (i : grid1.Coords) (arg1 : Memref sig .tc .smem S2 .f32) (harg1 : arg1.IsWhole) (arg2 : Memref sig .tc .vmem S20x384 .bf16) (harg2 : arg2.IsWhole) (arg3 : Memref sig .tc .vmem S20x64x256 .f32) (harg3 : arg3.IsWhole) (arg4 : Memref sig .tc .vmem S4096x64 .i8) (harg4 : arg4.IsWhole) (arg5 : Memref sig .tc .vmem S1x4096 .i8) (harg5 : arg5.IsWhole) (arg6 : Memref sig .tc .vmem S20x4096 .bf16) (harg6 : arg6.IsWhole)
  (x0 : Vec Ideal S2 .f32) (x1 : Vec Ideal S20x384 .bf16) (x2 : Vec Ideal S20x64x256 .f32) (x3 : Vec Ideal S4096x64 .i8) (x4 : Vec Ideal S1x4096 .i8)

/-- Every piece the trips before `n` store is some trip's tile. -/
theorem mem_pb (bd : Option Variants.none.V) (v0 : Vec Ideal S20x384 .bf16) (v5 v6 v7 : Elt Ideal .f32) (X3 : BufTy.Contents (Elt Ideal) arg3.view.ty) (X4 : BufTy.Contents (Elt Ideal) arg4.view.ty) (X5 : BufTy.Contents (Elt Ideal) arg5.view.ty)
    (n : Nat) (hn : n ≤ k1_t1_loop.trips) (p : View.Piece (Elt Ideal) S20x4096 .bf16)
    (hp : p ∈ pb_k1_t1 (F := Ideal) Variants.none c bd i arg1 harg1 arg2 harg2 arg3 harg3 arg4 harg4 arg5 harg5 arg6 harg6 v0 v5 v6 v7 X3 X4 X5 n) :
    ∃ k : Fin k1_t1_loop.trips, p = ⟨Rect.unit (s := S20x4096) (k1_off3 k) S20x128.size (k1_off3_inb k), tripPay arg3 arg4 arg5 v0 v5 v6 v7 X3 X4 X5 k⟩ := by
  induction n with
  | zero => exact absurd hp List.not_mem_nil
  | succ n ih =>
    rw [pb_k1_t1_succ (F := Ideal) Variants.none c bd i arg1 harg1 arg2 harg2 arg3 harg3 arg4 harg4 arg5 harg5 arg6 harg6 v0 v5 v6 v7 X3 X4 X5 ⟨n, hn⟩, tripL_eq] at hp
    rcases List.mem_append.mp hp with h | h
    · exact ⟨⟨n, hn⟩, List.mem_singleton.mp h⟩
    · exact ih (Nat.le_of_succ_le hn) h

/-- One trip's tile at query `q` and lane `l`: the distance of row `128 k + l` of the block. -/
theorem tripPay_at (k : Fin k1_t1_loop.trips) (q : Fin 20) (l : Fin 128) (v5 v6 v7 : Elt Ideal .f32)
    (h5 : v5 = x0 (ix1 0)) (h6 : v6 = x0 (ix1 1)) (h7 : v7 = x0 (ix1 0)) (v0 : Vec Ideal S20x384 .bf16) (h0 : v0 = x1) (r : Fin 4096) (hr : r.val = 128 * k.val + l.val) :
    tripPay arg3 arg4 arg5 v0 v5 v6 v7 (harg3.unread x2) (harg4.unread x3) (harg5.unread x4) k (ix2 q l)
      = blockDist x0 x1 x2 x3 x4 q r := by
  subst h5 h6 h7 h0
  unfold tripPay blockDist
  simp only [View.readAt_eq_ld, harg3.read_unread, harg4.read_unread, harg5.read_unread]
  have e4 (s : Fin 64) : View.ld x3 (Rect.unit (s := S4096x64) (k1_off1 k) S128x64.size (k1_off1_inb k)) (ix2 l s) = x3 (ix2 r s) := by
    refine View.ld_unit_apply_of _ _ _ _ _ _ fun a => ?_
    match a with
    | ⟨0, _⟩ => exact hr.trans (congrArg (· + l.val) (congrFun (k1_off1_eq k) 0).symm)
    | ⟨1, _⟩ => exact (Nat.zero_add _).symm.trans (congrArg (· + s.val) (congrFun (k1_off1_eq k) 1).symm)
  have e5 : View.ld x4 (Rect.unit (s := S1x4096) (k1_off2 k) S1x128.size (k1_off2_inb k)) (ix2 0 l) = x4 (ix2 0 r) := by
    refine View.ld_unit_apply_of _ _ _ _ _ _ fun a => ?_
    match a with
    | ⟨0, _⟩ => exact (congrArg (· + 0) (congrFun (k1_off2_eq k) 0).symm)
    | ⟨1, _⟩ => exact hr.trans (congrArg (· + l.val) (congrFun (k1_off2_eq k) 1).symm)
  have e3 (o : Nat) (g : Fin 8) (inb) (s : Fin 8) (j : Fin 128) (h : o + j.val < 256) :
      View.ld x2 (Rect.unit (s := S20x64x256) ![q.val, 8 * g.val, o] S1x8x128.size inb) (ix3 0 s j) = x2 (ix3 q ⟨g.val * 8 + s.val, by omega⟩ ⟨o + j.val, h⟩) := by
    refine View.ld_unit_apply_of _ _ _ _ _ _ fun a => ?_
    match a with
    | ⟨0, _⟩ => rfl
    | ⟨1, _⟩ => exact congrArg (· + s.val) (Nat.mul_comm g.val 8)
    | ⟨2, _⟩ => rfl
  rw [← e5]
  refine k1_pay2_at _ _ _ _ _ _ q l (fun s j => x2 (ix3 q s j)) _ ?_ rfl
  rw [ipOf_at, rowOf_at _ _ _ (fun s j => x2 (ix3 q s j))
    (fun g s j => (e3 0 g _ s j (by omega)).trans (congrArg x2 (congrArg (ix3 q _) (Fin.ext (Nat.zero_add _)))))
    (fun g s j => e3 128 g _ s j (by omega))]
  exact Finset.sum_congr rfl fun s _ => by rw [e4 s]

theorem out1_eq : out1_A_5 c i arg1 harg1 arg2 harg2 arg3 harg3 arg4 harg4 arg5 harg5 arg6 harg6 x0 x1 x2 x3 x4 = fun y => blockDist x0 x1 x2 x3 x4 (y 0) (y 1) := by
  funext y
  unfold out1_A_5
  refine View.read_writes_apply_of_pieces _ _ (fun y => blockDist x0 x1 x2 x3 x4 (y 0) (y 1)) _ (fun p hp j => ?_) y
    (cover1_A_5 c i arg1 harg1 arg2 harg2 arg3 harg3 arg4 harg4 arg5 harg5 arg6 harg6 x0 x1 x2 x3 x4 y)
  unfold kernelRun1_A at hp
  obtain ⟨k, rfl⟩ := mem_pb c i arg1 harg1 arg2 harg2 arg3 harg3 arg4 harg4 arg5 harg5 arg6 harg6 none _ _ _ _ _ _ _ _ (le_refl _) p hp
  idx_vars j
  have hk : k.val < 32 := lt_of_lt_of_eq k.isLt (by decide +kernel)
  have e0 : ((Rect.unit (s := S20x4096) (k1_off3 k) S20x128.size (k1_off3_inb k)).emb (ix2 j0 j1)) 0 = j0 := by
    exact Fin.ext ((ValueKit.rect_emb_unit_val _ _ _ _ _).trans ((congrArg (· + j0.val) (congrFun (k1_off3_eq k) 0)).trans (Nat.zero_add _)))
  have e1 : ((Rect.unit (s := S20x4096) (k1_off3 k) S20x128.size (k1_off3_inb k)).emb (ix2 j0 j1)) 1 = (⟨128 * k.val + j1.val, by omega⟩ : Fin 4096) := by
    exact Fin.ext ((ValueKit.rect_emb_unit_val _ _ _ _ _).trans (congrArg (· + j1.val) (congrFun (k1_off3_eq k) 1)))
  show _ = blockDist x0 x1 x2 x3 x4 _ _
  rw [e0, e1]
  refine tripPay_at arg3 harg3 arg4 harg4 arg5 harg5 x0 x1 x2 x3 x4 k j0 j1 _ _ _ ?_ ?_ ?_ _ ?_ _ rfl
  iterate 3
    · sl_unfold_words
      rw [View.readAt_eq_ld, harg1.read_unread]
      refine View.ld_unit_apply_of _ _ _ _ _ _ fun a => ?_
      match a with
      | ⟨0, _⟩ => rfl
  · rw [View.readAt_eq_ld, harg2.read_unread]
    refine View.ld_unit_zero (funext fun a => ?_) _ _
    match a with
    | ⟨0, _⟩ => rfl
    | ⟨1, _⟩ => rfl

end Block

/-- Every window's block index, at all grid points. -/
theorem idx1 : ∀ t : Fin cfg1.N, win1_0.index t = ![0] ∧ win1_1.index t = ![0, 0] ∧ win1_2.index t = ![0, 0, 0]
    ∧ win1_3.index t = ![t.val, 0] ∧ win1_4.index t = ![0, t.val] ∧ win1_5.index t = ![0, t.val] :=
  (by decide +kernel : ∀ t : Fin grid1.N, _)

section Array
variable (V : (c : Dev nD) → (b : Ref sig .tc) → Buf (Elt Ideal) ((c : Thread nD τ).loc b)) (c : Dev nD)

theorem iblk1_0 (t : Fin cfg1.N) : iblk1 V c 0 t = V c main_v2 := by blk_ext! [iblk1, idx1 t]
theorem iblk1_1 (t : Fin cfg1.N) : iblk1 V c 1 t = V c main_arg0 := by blk_ext! [iblk1, idx1 t]
theorem iblk1_2 (t : Fin cfg1.N) : iblk1 V c 2 t = V c main_v1 := by blk_ext! [iblk1, idx1 t]

/-- The search region's output array: distances of all rows. -/
theorem search_final : (dat1 V c).arrAt 5 cfg1.N
    = fun i : S20x1048576.Idx => blockDist (V c main_v2) (V c main_arg0) (V c main_v1) (V c main_arg2) (V c main_v3) (i 0) (i 1) := by
  refine (dat1 V c).arrAt_eq_of_covers 5 _ (by decide +kernel) fun t _ y => ?_
  blk_simp
  rw [after1_5]
  unfold outsAt1
  rw [out1_eq]
  have e3 (s : Fin 64) : iblk1 V c 3 t (ix2 (y 1) s) = V c main_arg2 (ix2 ((win1_5.blk t).view.emb y 1) s) := by
    blk_ext [iblk1, idx1 t]
  have e4 : iblk1 V c 4 t (ix2 0 (y 1)) = V c main_v3 (ix2 0 ((win1_5.blk t).view.emb y 1)) := by
    blk_ext [iblk1, idx1 t]
  have e0 : (win1_5.blk t).view.emb y 0 = y 0 := Fin.ext (by blk_simp [idx1 t])
  dsimp only
  unfold blockDist
  rw [iblk1_0, iblk1_1, iblk1_2, e0, e4, funext e3]

end Array

end Cert.KernelIdeal.Value

end
-- ==== Proof.Run.lean ====
/- The kernel's run on the reals: both result arrays, index by index, and the arguments unchanged. -/
module

public import proofs.«01_k».proof.Proof.Lut
public import proofs.«01_k».proof.Proof.Search

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The table result over the arguments. -/
def lutOf (X : Vec Ideal S20x384 .bf16) (B : Vec Ideal S64x256x384 .bf16) : Vec Ideal S20x64x256 .f32 :=
  fun i => blockLut X B (i 1) (i 0) (i 2)

/-- The distance result over the arguments. -/
def distOf (X : Vec Ideal S20x384 .bf16) (B : Vec Ideal S64x256x384 .bf16) (C : Vec Ideal S1048576x64 .i8) (N : Vec Ideal S1048576 .i8)
    (lo hi : Vec Ideal S1 .f32) : Vec Ideal S20x1048576 .bf16 :=
  fun i => Spec.distOf (fun k => X (ix2 (i 0) k)) (fun s k => lutOf X B (ix3 (i 0) s k)) (fun s => C (ix2 (i 1) s)) (N (ix1 (i 1)))
    (lo (ix1 0)) (hi (ix1 0))

variable (m : (ℓ : Loc nD τ sig) → Buf (Elt Ideal) ℓ) (ρ : Dev nD → PrngReg)

theorem W1_main_v0 (c : Dev nD) : W1 m ρ c (Proc.devRef .tc main_v0)
    = fun i : S64x20x256.Idx => blockLut (m ((c : Thread nD τ).loc main_arg0)) (m ((c : Thread nD τ).loc main_arg1)) (i 0) (i 1) (i 2) :=
  (W1_arr m ρ c 2).trans (lut_final (V0 m ρ) c)

theorem W2_main_v1 (c : Dev nD) : W2 m ρ c (Proc.devRef .tc main_v1)
    = lutOf (m ((c : Thread nD τ).loc main_arg0)) (m ((c : Thread nD τ).loc main_arg1)) := by
  have e : W2 m ρ c (Proc.devRef .tc main_v1) = transpose S20x64x256 [1, 0, 2] (W1 m ρ c (Proc.devRef .tc main_v0)) transposes_S64x20x256_S20x64x256_1_0_2 := by
    unfold W2 hostOps1
    after_results_simp <;> rfl
  rw [e, W1_main_v0]
  rfl

theorem W2_main_v2 (c : Dev nD) : W2 m ρ c (Proc.devRef .tc main_v2)
    = concatenate S2 0 [⟨S1, m ((c : Thread nD τ).loc main_arg4)⟩, ⟨S1, m ((c : Thread nD τ).loc main_arg5)⟩] concatenates_S1_S1_S2_d0 := by
  have e : W2 m ρ c (Proc.devRef .tc main_v2) = concatenate S2 0 [⟨S1, W1 m ρ c (Proc.devRef .tc main_arg4)⟩, ⟨S1, W1 m ρ c (Proc.devRef .tc main_arg5)⟩] concatenates_S1_S1_S2_d0 := by
    unfold W2 hostOps1
    after_results_simp <;> rfl
  rw [e, W1_args m ρ c main_arg4 (by decide), W1_args m ρ c main_arg5 (by decide)]

theorem W2_main_v3 (c : Dev nD) : W2 m ρ c (Proc.devRef .tc main_v3)
    = shapeCast S1x1048576 (m ((c : Thread nD τ).loc main_arg3)) shapeCasts_S1048576_S1x1048576 := by
  have e : W2 m ρ c (Proc.devRef .tc main_v3) = shapeCast S1x1048576 (W1 m ρ c (Proc.devRef .tc main_arg3)) shapeCasts_S1048576_S1x1048576 := by
    unfold W2 hostOps1
    after_results_simp <;> rfl
  rw [e, W1_args m ρ c main_arg3 (by decide)]

theorem W3_main_v1 (c : Dev nD) : W3 m ρ c (Proc.devRef .tc main_v1)
    = lutOf (m ((c : Thread nD τ).loc main_arg0)) (m ((c : Thread nD τ).loc main_arg1)) :=
  (W3_of m ρ c main_v1 (by decide +kernel)).trans (W2_main_v1 m ρ c)

theorem rng_at (lo hi : Vec Ideal S1 .f32) :
    concatenate S2 0 [⟨S1, lo⟩, ⟨S1, hi⟩] concatenates_S1_S1_S2_d0 (ix1 0) = lo (ix1 0)
      ∧ concatenate S2 0 [⟨S1, lo⟩, ⟨S1, hi⟩] concatenates_S1_S1_S2_d0 (ix1 1) = hi (ix1 0) := by
  constructor <;> pointwise

theorem norm_at (N : Vec Ideal S1048576 .i8) (r : Fin 1048576) :
    shapeCast S1x1048576 N shapeCasts_S1048576_S1x1048576 (ix2 0 r) = N (ix1 r) := by
  pointwise

theorem W3_main_v4 (c : Dev nD) : W3 m ρ c (Proc.devRef .tc main_v4)
    = distOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W3_arr m ρ c 5).trans ((search_final (V2 m ρ) c).trans ?_)
  have e0 : V2 m ρ c main_arg0 = m ((c : Thread nD τ).loc main_arg0) := W2_args m ρ c main_arg0 (by decide)
  have e2 : V2 m ρ c main_arg2 = m ((c : Thread nD τ).loc main_arg2) := W2_args m ρ c main_arg2 (by decide)
  funext i
  unfold blockDist distOf
  rw [e0, e2, show V2 m ρ c main_v1 = _ from W2_main_v1 m ρ c, show V2 m ρ c main_v2 = _ from W2_main_v2 m ρ c,
    show V2 m ρ c main_v3 = _ from W2_main_v3 m ρ c]
  rw [(rng_at _ _).1, (rng_at _ _).2]
  exact congrArg (fun n => Spec.distOf _ _ _ n _ _) (norm_at _ (i 1))

set_option backward.isDefEq.respectTransparency.types false in
/-- The run: what the two results hold, the arguments as launched. -/
theorem run : θ_run (defs (F := Ideal)) (onTc (τ := τ) (main (F := Ideal))) ⟨m, fun _ => 0, ρ⟩ (fun r => ∀ c : Dev nD,
      r.2.mem ((c.tc : Thread nD τ).loc main_v4) = distOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
      ∧ r.2.mem ((c.tc : Thread nD τ).loc main_v1) = lutOf (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨(h c _ (mem_uc main_v4 (by decide))).trans (W3_main_v4 m ρ c),
       (h c _ (mem_uc main_v1 (by decide))).trans (W3_main_v1 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.Value

end
-- ==== Proof.RefValue.lean ====
/- The reference's distance array, read at an index, is the plain formula. -/
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.SL.Sem

/-- The start indices of the reference's gather: the subspace number beside the code, each wrapped if negative. -/
def startIx (C : IVec S1048576x64 8) : IVec S1048576x64x2 32 :=
  concatenate S1048576x64x2 2 [⟨S1048576x64x1, (broadcastInDim S1048576x64x1 ![0, 1] bcast_S1048576x64_S1048576x64x1_0_1 (broadcastInDim S1048576x64 ![0, 1] bcast_S1x64_S1048576x64_0_1 (select (cmpi .slt (broadcastInDim S1x64 ![1] bcast_S64_S1x64_1 (iotaInDim S64 32 0)) (broadcastInDim S1x64 ![] bcast_S_S1x64 (constantI S_ 32 0#32))) (addi (broadcastInDim S1x64 ![1] bcast_S64_S1x64_1 (iotaInDim S64 32 0)) (broadcastInDim S1x64 ![] bcast_S_S1x64 (constantI S_ 32 64#32))) (broadcastInDim S1x64 ![1] bcast_S64_S1x64_1 (iotaInDim S64 32 0)))))⟩, ⟨S1048576x64x1, (broadcastInDim S1048576x64x1 ![0, 1] bcast_S1048576x64_S1048576x64x1_0_1 (select (cmpi .slt (extui 32 C natLt_8_32) (broadcastInDim S1048576x64 ![] bcast_S_S1048576x64 (constantI S_ 32 0#32))) (addi (extui 32 C natLt_8_32) (broadcastInDim S1048576x64 ![] bcast_S_S1048576x64 (constantI S_ 32 256#32))) (extui 32 C natLt_8_32)))⟩] concatenates_S1048576x64x1_S1048576x64x1_S1048576x64x2_d2

theorem startIx_0 (C : IVec S1048576x64 8) (n : Fin 1048576) (s : Fin 64) :
    startIx C (ix3 n s 0) = BitVec.ofNat 32 s.val := by
  pointwise [startIx]
  revert s; decide +kernel

theorem word_code (c : BitVec 8) : Scalar.select (IntOp.cmpi .slt (c.setWidth 32) 0#32) (IntOp.addi (c.setWidth 32) 256#32) (c.setWidth 32) = c.setWidth 32
    ∧ (c.setWidth 32).toInt.toNat = c.toNat := by
  revert c; decide +kernel

theorem startIx_1 (C : IVec S1048576x64 8) (n : Fin 1048576) (s : Fin 64) :
    startIx C (ix3 n s 1) = (C (ix2 n s)).setWidth 32 := by
  pointwise [startIx]
  exact (word_code _).1

/-- The gather read at `(q, n, s)`: the table's entry of query `q` at the start indices' subspace and code. -/
theorem gather_at {α : Type} (L : S20x64x256.Idx → α) (I : IVec S1048576x64x2 32) (q : Fin 20) (n : Fin 1048576) (s : Fin 64)
    (b : Fin 64) (k : Fin 256) (h0 : (I (ix3 n s 0)).toInt.toNat = b.val) (h1 : (I (ix3 n s 1)).toInt.toNat = k.val) :
    Host.gather gather_S20x64x256_S1048576x64x2_S20x1048576x64_0_12_n_n_12_2_2011 L I (ix3 q n s) = L (ix3 q b k) := by
  let d := gather_S20x64x256_S1048576x64x2_S20x1048576x64_0_12_n_n_12_2_2011
  unfold Host.gather
  refine congrArg L (funext fun a => Fin.ext ?_)
  show d.start (ix3 q n s) I a + d.batchCoord (ix3 q n s) a + d.offCoord (ix3 q n s) a = _
  rw [GatherDims.batchCoord_eq_zero _ _ _ List.not_mem_nil]
  match a with
  | ⟨0, _⟩ =>
    show d.start (ix3 q n s) I (0 : Fin 3) + 0 + d.offCoord (ix3 q n s) (0 : Fin 3) = q.val
    unfold GatherDims.start GatherDims.offCoord
    rw [dif_neg (show (0 : Fin 3) ∉ d.startIndexMap by decide), dif_pos (show (0 : Fin 3) ∈ d.sKept by decide), Nat.zero_add]
    rfl
  | ⟨1, _⟩ =>
    show d.start (ix3 q n s) I (1 : Fin 3) + 0 + d.offCoord (ix3 q n s) (1 : Fin 3) = b.val
    rw [GatherDims.offCoord_eq_zero _ _ _ (fun h => ((GatherDims.mem_sKept _ _).mp h).1 (show (1 : Fin 3) ∈ d.collapsedSliceDims by decide))]
    unfold GatherDims.start
    rw [dif_pos (show (1 : Fin 3) ∈ d.startIndexMap by decide)]
    have hsi : d.siIdx (ix3 q n s) ⟨List.idxOf (1 : Fin 3) d.startIndexMap, List.idxOf_lt_length_iff.2 (by decide)⟩ = ix3 n s 0 := by
      funext b; refine Fin.ext ?_
      match b with
      | ⟨0, _⟩ => rfl
      | ⟨1, _⟩ => rfl
      | ⟨2, _⟩ => rfl
    rw [hsi]
    show min (I (ix3 n s 0)).toInt.toNat 63 + 0 + 0 = b.val
    omega
  | ⟨2, _⟩ =>
    show d.start (ix3 q n s) I (2 : Fin 3) + 0 + d.offCoord (ix3 q n s) (2 : Fin 3) = k.val
    rw [GatherDims.offCoord_eq_zero _ _ _ (fun h => ((GatherDims.mem_sKept _ _).mp h).1 (show (2 : Fin 3) ∈ d.collapsedSliceDims by decide))]
    unfold GatherDims.start
    rw [dif_pos (show (2 : Fin 3) ∈ d.startIndexMap by decide)]
    have hsi : d.siIdx (ix3 q n s) ⟨List.idxOf (2 : Fin 3) d.startIndexMap, List.idxOf_lt_length_iff.2 (by decide)⟩ = ix3 n s 1 := by
      funext b; refine Fin.ext ?_
      match b with
      | ⟨0, _⟩ => rfl
      | ⟨1, _⟩ => rfl
      | ⟨2, _⟩ => rfl
    rw [hsi]
    show min (I (ix3 n s 1)).toInt.toNat 255 + 0 + 0 = k.val
    omega

/-- The gather at the reference's start indices: the table's entry that the row's code names. -/
theorem gather_code {α : Type} (L : S20x64x256.Idx → α) (C : IVec S1048576x64 8) (q : Fin 20) (n : Fin 1048576) (s : Fin 64) :
    Host.gather gather_S20x64x256_S1048576x64x2_S20x1048576x64_0_12_n_n_12_2_2011 L (startIx C) (ix3 q n s)
      = L (ix3 q s (Spec.codeIx (C (ix2 n s)))) := by
  refine gather_at L _ q n s s _ ?_ ?_
  · rw [startIx_0]; revert s; decide +kernel
  · rw [startIx_1]; exact (word_code _).2

/-- The table result. -/
def LUT (X : FVec Ideal S20x384 .bf16) (B : FVec Ideal S64x256x384 .bf16) : FVec Ideal S20x64x256 .f32 :=
  Host.dotGeneral dot_S20x384_S64x256x384_S20x64x256_1_2_0_01_n_n none X B

theorem LUT_at (X : FVec Ideal S20x384 .bf16) (B : FVec Ideal S64x256x384 .bf16) (q : Fin 20) (s : Fin 64) (k : Fin 256) :
    LUT X B (ix3 q s k) = ∑ d : Fin 384, X (ix2 q d) * B (ix3 s k d) := by
  pointwise [LUT]

/-- The distance result over the table `L` and the other arguments. -/
def DIST (X : FVec Ideal S20x384 .bf16) (L : FVec Ideal S20x64x256 .f32) (C : IVec S1048576x64 8) (N : IVec S1048576 8) (lo hi : FVec Ideal S1 .f32) :
    FVec Ideal S20x1048576 .bf16 :=
  truncf .bf16 (addf (subf (broadcastInDim S20x1048576 ![0, 1] bcast_S20x1_S20x1048576_0_1 (broadcastInDim S20x1 ![0] bcast_S20_S20x1_0 (Host.reduceAdd (mulf (extf .f32 X bitsLt_bf16_f32) (extf .f32 X bitsLt_bf16_f32)) (constant S_ .f32 0x00000000#32) reducesTo_S20x384_S20_d1 h_S_))) (mulf (broadcastInDim S20x1048576 ![] bcast_S_S20x1048576 (constant S_ .f32 0x40000000#32)) (Host.reduceAdd (Host.gather gather_S20x64x256_S1048576x64x2_S20x1048576x64_0_12_n_n_12_2_2011 L (startIx C)) (constant S_ .f32 0x00000000#32) reducesTo_S20x1048576x64_S20x1048576_d2 h_S_))) (broadcastInDim S20x1048576 ![0, 1] bcast_S1x1048576_S20x1048576_0_1 (broadcastInDim S1x1048576 ![1] bcast_S1048576_S1x1048576_1 (addf (broadcastInDim S1048576 ![] bcast_S_S1048576 (shapeCast _ lo shapeCasts_S1_S_)) (mulf (addf (sitofp .f32 (extui 32 N natLt_8_32)) (broadcastInDim S1048576 ![] bcast_S_S1048576 (constant S_ .f32 0x3F000000#32))) (broadcastInDim S1048576 ![] bcast_S_S1048576 (Host.divf (subf (shapeCast _ hi shapeCasts_S1_S_) (shapeCast _ lo shapeCasts_S1_S_)) (constant S_ .f32 0x43800000#32)))))))) bitsLt_bf16_f32

theorem DIST_at (X : FVec Ideal S20x384 .bf16) (L : FVec Ideal S20x64x256 .f32) (C : IVec S1048576x64 8) (N : IVec S1048576 8) (lo hi : FVec Ideal S1 .f32)
    (q : Fin 20) (n : Fin 1048576) :
    DIST X L C N lo hi (ix2 q n) = Spec.distOf (fun k => X (ix2 q k)) (fun s k => L (ix3 q s k)) (fun s => C (ix2 n s)) (N (ix1 n)) (lo (ix1 0)) (hi (ix1 0)) := by
  pointwise [DIST, Spec.distOf]
  simp only [gather_code]
  rfl

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends with its arguments unchanged; it has no semaphore. -/
theorem reference_frame : Cert.quiescent_ReferenceIdeal (hReferenceIdeal := Cert.ReferenceIdeal.Gen.facts) := fun m g _ =>
  (θ_run _ _ _).mono (fun r h => ⟨fun c => (h c).2.2, sem_eq_zero_of_no_sems rfl r.2⟩) (Cert.ReferenceIdeal.Value.run m g)

/-- The kernel's table is the reference's. -/
theorem lut_eq (X : Vec Ideal S20x384 .bf16) (B : Vec Ideal S64x256x384 .bf16) :
    Cert.ReferenceIdeal.Value.LUT X B = Cert.KernelIdeal.Value.lutOf X B := by
  funext i
  idx_vars i
  exact Cert.ReferenceIdeal.Value.LUT_at X B _ _ _

/-- The kernel's distances are the reference's, over the shared table. -/
theorem dist_eq (X : Vec Ideal S20x384 .bf16) (B : Vec Ideal S64x256x384 .bf16) (C : Vec Ideal S1048576x64 .i8) (N : Vec Ideal S1048576 .i8)
    (lo hi : Vec Ideal S1 .f32) :
    Cert.ReferenceIdeal.Value.DIST X (Cert.ReferenceIdeal.Value.LUT X B) C N lo hi = Cert.KernelIdeal.Value.distOf X B C N lo hi := by
  rw [lut_eq]
  funext i
  idx_vars i
  exact Cert.ReferenceIdeal.Value.DIST_at X _ C N lo hi _ _

/-- Both programs on agreeing arguments: equal results. -/
theorem results_agree : Cert.algebraic_KernelIdeal_ReferenceIdeal (hKernelIdeal := Cert.KernelIdeal.Gen.facts)
    (hReferenceIdeal := Cert.ReferenceIdeal.Gen.facts) := by
  intro m g m' g' _ hagree
  refine ⟨_, _, Cert.KernelIdeal.Value.run m g,
    (θ_run _ _ _).mono (fun r h c => ⟨(h c).1.trans ?_, (h c).2.1.trans ?_, (h c).2.2⟩) (Cert.ReferenceIdeal.Value.run m' g')⟩
  · obtain ⟨e0, e1, e2, e3, e4, e5⟩ := hagree c
    rw [e0, e1, e2, e3, e4, e5]
    exact dist_eq _ _ _ _ _ _
  · obtain ⟨e0, e1, -⟩ := hagree c
    rw [e0, e1]
    exact lut_eq _ _

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, results_agree⟩

end Cert.Proof

end
